-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x32x1024 : Shape := ⟨3, ![16, 32, 1024]⟩
abbrev S8192x32 : Shape := ⟨2, ![8192, 32]⟩
abbrev S16x1024x32 : Shape := ⟨3, ![16, 1024, 32]⟩
abbrev S16384x32 : Shape := ⟨2, ![16384, 32]⟩
abbrev S_ : Shape := ⟨0, ![]⟩
abbrev S128 : Shape := ⟨1, ![128]⟩
abbrev S1x128 : Shape := ⟨2, ![1, 128]⟩
abbrev S8x128 : Shape := ⟨2, ![8, 128]⟩
abbrev S8x1x2048 : Shape := ⟨3, ![8, 1, 2048]⟩
abbrev S2048x32 : Shape := ⟨2, ![2048, 32]⟩
abbrev S1x1x2048 : Shape := ⟨3, ![1, 1, 2048]⟩
abbrev S2048 : Shape := ⟨1, ![2048]⟩
abbrev S2048x1 : Shape := ⟨2, ![2048, 1]⟩
abbrev S4096x32 : Shape := ⟨2, ![4096, 32]⟩
abbrev S4096 : Shape := ⟨1, ![4096]⟩
abbrev S2048x4096 : Shape := ⟨2, ![2048, 4096]⟩
abbrev S256x8x128 : Shape := ⟨3, ![256, 8, 128]⟩
abbrev S2048x128 : Shape := ⟨2, ![2048, 128]⟩
abbrev S1x8x128 : Shape := ⟨3, ![1, 8, 128]⟩
abbrev S256x8x1 : Shape := ⟨3, ![256, 8, 1]⟩
abbrev S256x8 : Shape := ⟨2, ![256, 8]⟩
abbrev S16x1024 : Shape := ⟨2, ![16, 1024]⟩

abbrev nBuf : Space → Nat
  | .hbm => 13
  | .vmem => 8
  | .smem => 0
  | _ => 0

abbrev bufTy : (tb : Table) → Fin (tcTables nBuf tb) → BufTy
  | .hbm, ⟨0, _⟩ => ⟨S16x32x1024, .f32⟩
  | .hbm, ⟨1, _⟩ => ⟨S8192x32, .f32⟩
  | .hbm, ⟨2, _⟩ => ⟨S16x1024x32, .f32⟩
  | .hbm, ⟨3, _⟩ => ⟨S16384x32, .f32⟩
  | .hbm, ⟨4, _⟩ => ⟨S_, .f32⟩
  | .hbm, ⟨5, _⟩ => ⟨S16384x32, .f32⟩
  | .hbm, ⟨6, _⟩ => ⟨S16384x32, .f32⟩
  | .hbm, ⟨7, _⟩ => ⟨S16384x32, .bf16⟩
  | .hbm, ⟨8, _⟩ => ⟨S128, .f32⟩
  | .hbm, ⟨9, _⟩ => ⟨S1x128, .f32⟩
  | .hbm, ⟨10, _⟩ => ⟨S8x128, .f32⟩
  | .hbm, ⟨11, _⟩ => ⟨S8x1x2048, .i32⟩
  | .hbm, ⟨12, _⟩ => ⟨S16x1024, .i32⟩
  | .local _ .vmem, ⟨0, _⟩ => ⟨S2048x32, .bf16⟩
  | .local _ .vmem, ⟨1, _⟩ => ⟨S2048x32, .bf16⟩
  | .local _ .vmem, ⟨2, _⟩ => ⟨S2048x32, .f32⟩
  | .local _ .vmem, ⟨3, _⟩ => ⟨S2048x32, .f32⟩
  | .local _ .vmem, ⟨4, _⟩ => ⟨S8192x32, .f32⟩
  | .local _ .vmem, ⟨5, _⟩ => ⟨S8x128, .f32⟩
  | .local _ .vmem, ⟨6, _⟩ => ⟨S1x1x2048, .i32⟩
  | .local _ .vmem, ⟨7, _⟩ => ⟨S1x1x2048, .i32⟩
  | _, _ => ⟨S16x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x32x1024 : Shape := ⟨3, ![16, 32, 1024]⟩
abbrev S8192x32 : Shape := ⟨2, ![8192, 32]⟩
abbrev S16x1024x32 : Shape := ⟨3, ![16, 1024, 32]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S32x8192 : Shape := ⟨2, ![32, 8192]⟩
abbrev S16384x8192 : Shape := ⟨2, ![16384, 8192]⟩
abbrev S8192 : Shape := ⟨1, ![8192]⟩
abbrev S1x8192 : Shape := ⟨2, ![1, 8192]⟩
abbrev S16x1024 : Shape := ⟨2, ![16, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16x32x1024, .f32⟩
  | .hbm, ⟨1, _⟩ => ⟨S8192x32, .f32⟩
  | .hbm, ⟨2, _⟩ => ⟨S16x1024x32, .f32⟩
  | .hbm, ⟨3, _⟩ => ⟨S16384x32, .f32⟩
  | .hbm, ⟨4, _⟩ => ⟨S16384x32, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x32, .f32⟩
  | .hbm, ⟨10, _⟩ => ⟨S16384x32, .f32⟩
  | .hbm, ⟨11, _⟩ => ⟨S32x8192, .f32⟩
  | .hbm, ⟨12, _⟩ => ⟨S16384x8192, .f32⟩
  | .hbm, ⟨13, _⟩ => ⟨S16384x8192, .f32⟩
  | .hbm, ⟨14, _⟩ => ⟨S16384x8192, .f32⟩
  | .hbm, ⟨15, _⟩ => ⟨S8192x32, .f32⟩
  | .hbm, ⟨16, _⟩ => ⟨S_, .f32⟩
  | .hbm, ⟨17, _⟩ => ⟨S8192, .f32⟩
  | .hbm, ⟨18, _⟩ => ⟨S1x8192, .f32⟩
  | .hbm, ⟨19, _⟩ => ⟨S16384x8192, .f32⟩
  | .hbm, ⟨20, _⟩ => ⟨S16384x8192, .f32⟩
  | .hbm, ⟨21, _⟩ => ⟨S16384x8192, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S16x1024, .i32⟩
  | _, _ => ⟨S16x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Proof.Scan.lean ====
module

public import proofs.«01_k».proof.Proof.Gen.KernelIdeal.Frame

@[expose] public section

noncomputable section

/-! # What one block of the kernel computes, as a scan over lane groups

The body works on a block of 2048 rows against two chunks of 4096 codes.  A chunk is gone through in 32
groups of 128 codes; after each group two vectors are kept, the least distance met so far and the index
(within the chunk) of the group that gave it.  Here the written-out steps are put as one recursion over
the number of groups done. -/

namespace Cert.Scan

open Idealize.ShloMosaic Cert.KernelIdeal Cert.KernelIdeal.Gen

variable {F : FTy → Type} [FloatOps F]

/-- The bit word of the constant added to the lane ids in group `g`: the number `128 * g` as an f32. -/
def offBits (g : ℕ) : BitVec 32 :=
  [0x00000000#32, 0x43000000#32, 0x43800000#32, 0x43C00000#32, 0x44000000#32, 0x44200000#32, 0x44400000#32,
   0x44600000#32, 0x44800000#32, 0x44900000#32, 0x44A00000#32, 0x44B00000#32, 0x44C00000#32, 0x44D00000#32,
   0x44E00000#32, 0x44F00000#32, 0x45000000#32, 0x45080000#32, 0x45100000#32, 0x45180000#32, 0x45200000#32,
   0x45280000#32, 0x45300000#32, 0x45380000#32, 0x45400000#32, 0x45480000#32, 0x45500000#32, 0x45580000#32,
   0x45600000#32, 0x45680000#32, 0x45700000#32, 0x45780000#32].getD g 0#32

/-- Group `g`'s columns lie inside the chunk's 2048 × 4096 matrix of products. -/
theorem cols_inside {g : ℕ} (h : g < 32) : S2048x4096.Slices ![0, 128 * g] S2048x128 :=
  (by decide : ∀ k : Fin 32, S2048x4096.Slices ![0, 128 * k.val] S2048x128) ⟨g, h⟩

/-- Group `g`'s codes lie inside the chunk's 4096 codes. -/
theorem codes_inside {g : ℕ} (h : g < 32) : S4096.Slices ![128 * g] S128 :=
  (by decide : ∀ k : Fin 32, S4096.Slices ![128 * k.val] S128) ⟨g, h⟩

/-- The distances of the block's rows to the 128 codes of group `g`: row norm minus product plus code norm. -/
def dist (zn : FVec F S2048x1 .f32) (cn : FVec F S4096 .f32) (cv : FVec F S2048x4096 .f32) (g : ℕ) (h : g < 32) :
    FVec F S256x8x128 .f32 :=
  shapeCast S256x8x128
    (addf
      (subf (broadcastTo S2048x128 zn broadcasts_S2048x1_S2048x128)
        (extractStridedSlice S2048x128 ![0, 128 * g] cv (cols_inside h)))
      (broadcastTo S2048x128
        (shapeCast S1x128 (extractStridedSlice S128 ![128 * g] cn (codes_inside h)) shapeCasts_S128_S1x128)
        broadcasts_S1x128_S2048x128))
    shapeCasts_S2048x128_S256x8x128

/-- The code numbers of group `g` within the chunk, one per lane. -/
def codeIds (ids : FVec F S8x128 .f32) (g : ℕ) : FVec F S256x8x128 .f32 :=
  broadcastTo S256x8x128
    (shapeCast S1x8x128
      (shapeCast S1x8x128 (addf ids (broadcast S8x128 (Scalar.ofBits .f32 (offBits g)))) shapeCasts_S8x128_S1x8x128)
      shapeCasts_S1x8x128_S1x8x128)
    broadcasts_S1x8x128_S256x8x128

/-- The least distance per lane after `n` groups. -/
def minAfter (zn : FVec F S2048x1 .f32) (cn : FVec F S4096 .f32) (cv : FVec F S2048x4096 .f32) :
    (n : ℕ) → n ≤ 32 → FVec F S256x8x128 .f32
  | 0, _ => broadcast S256x8x128 (Scalar.ofBits .f32 0x7F800000#32)
  | n + 1, h => minimumf (minAfter zn cn cv n (Nat.le_of_succ_le h)) (dist zn cn cv n h)

/-- The code number per lane at which that least distance was first met. -/
def argAfter (ids : FVec F S8x128 .f32) (zn : FVec F S2048x1 .f32) (cn : FVec F S4096 .f32)
    (cv : FVec F S2048x4096 .f32) : (n : ℕ) → n ≤ 32 → FVec F S256x8x128 .f32
  | 0, _ => broadcast S256x8x128 (Scalar.ofBits .f32 0x00000000#32)
  | n + 1, h =>
    select (cmpf .olt (dist zn cn cv n h) (minAfter zn cn cv n (Nat.le_of_succ_le h))) (codeIds ids n)
      (argAfter ids zn cn cv n (Nat.le_of_succ_le h))

/-- The chunk's least distance per row: the minimum over the lanes. -/
def chunkMin (zn : FVec F S2048x1 .f32) (cn : FVec F S4096 .f32) (cv : FVec F S2048x4096 .f32) : FVec F S2048 .f32 :=
  multiReduction .minimumf [1] S2048
    (shapeCast S2048x128 (minAfter zn cn cv 32 le_rfl) shapeCasts_S256x8x128_S2048x128)
    0x7F800000#32 reduces_S2048x128_S2048 (.inl rfl) rfl

/-- The chunk's code number per row: the least one among the lanes that attain the minimum. -/
def chunkArg (ids : FVec F S8x128 .f32) (zn : FVec F S2048x1 .f32) (cn : FVec F S4096 .f32)
    (cv : FVec F S2048x4096 .f32) : FVec F S2048 .f32 :=
  shapeCast S2048
    (multiReduction .minimumf [2] S256x8
      (select
        (cmpf .oeq (minAfter zn cn cv 32 le_rfl)
          (broadcastTo S256x8x128 (shapeCast S256x8x1 (chunkMin zn cn cv) shapeCasts_S2048_S256x8x1)
            broadcasts_S256x8x1_S256x8x128))
        (argAfter ids zn cn cv 32 le_rfl) (broadcast S256x8x128 (Scalar.ofBits .f32 0x46000000#32)))
      0x7F800000#32 reduces_S256x8x128_S256x8 (.inl rfl) rfl)
    shapeCasts_S256x8_S2048

/-- The least distance per row after the first chunk. -/
def firstVal (zn : FVec F S2048x1 .f32) (cn : FVec F S4096 .f32) (cv : FVec F S2048x4096 .f32) : FVec F S2048 .f32 :=
  select (cmpf .olt (chunkMin zn cn cv) (broadcast S2048 (Scalar.ofBits .f32 0x7F800000#32)))
    (extf .f32 (truncf .bf16 (chunkMin zn cn cv) bitsLt_bf16_f32) bitsLt_bf16_f32)
    (broadcast S2048 (Scalar.ofBits .f32 0x7F800000#32))

/-- The code number per row after the first chunk. -/
def firstIdx (ids : FVec F S8x128 .f32) (zn : FVec F S2048x1 .f32) (cn : FVec F S4096 .f32)
    (cv : FVec F S2048x4096 .f32) : FVec F S2048 .f32 :=
  select (cmpf .olt (chunkMin zn cn cv) (broadcast S2048 (Scalar.ofBits .f32 0x7F800000#32)))
    (addf (chunkArg ids zn cn cv) (broadcast S2048 (Scalar.ofBits .f32 0x00000000#32)))
    (broadcast S2048 (Scalar.ofBits .f32 0x00000000#32))

/-- The code number per row after both chunks, as a float. -/
def lastIdx (ids : FVec F S8x128 .f32) (zn : FVec F S2048x1 .f32) (cn0 : FVec F S4096 .f32)
    (cv0 : FVec F S2048x4096 .f32) (cn1 : FVec F S4096 .f32) (cv1 : FVec F S2048x4096 .f32) : FVec F S2048 .f32 :=
  select (cmpf .olt (chunkMin zn cn1 cv1) (firstVal zn cn0 cv0))
    (addf (chunkArg ids zn cn1 cv1) (broadcast S2048 (Scalar.ofBits .f32 0x45800000#32)))
    (firstIdx ids zn cn0 cv0)

/-- The block the body stores. -/
def stored (ids : FVec F S8x128 .f32) (zn : FVec F S2048x1 .f32) (cn0 : FVec F S4096 .f32)
    (cv0 : FVec F S2048x4096 .f32) (cn1 : FVec F S4096 .f32) (cv1 : FVec F S2048x4096 .f32) : IVec S1x1x2048 32 :=
  shapeCast S1x1x2048 (fptosi 32 (lastIdx ids zn cn0 cv0 cn1 cv1)) shapeCasts_S2048_S1x1x2048

set_option maxRecDepth 8192 in
/-- The body's output buffer is the scan's result over the loaded blocks. -/
theorem out_eq (x0 : Vec F S2048x32 .bf16) (x1 : Vec F S2048x32 .f32) (x2 : Vec F S8192x32 .f32)
    (x3 : Vec F S8x128 .f32) :
    out0_4 x0 x1 x2 x3 =
      View.canon [⟨r0_4, stored (k0_pay3 (View.ld x3 r0_1)) (k0_pay4 (View.ld x1 r0_0)) (k0_pay7 (View.ld x2 r0_2))
        (k0_pay8 (View.ld x0 r0_0) (View.ld x2 r0_2)) (k0_pay101 (View.ld x2 r0_3))
        (k0_pay102 (k0_pay2 (View.ld x0 r0_0)) (View.ld x2 r0_3))⟩] := by
  rfl

end Cert.Scan
-- ==== Proof.FirstMin.lean ====
module

public import Idealize.ShloMosaic.PureOps.Ideal.Laws

@[expose] public section

/-! # The first least index of a finite sequence of extended reals

Both programs look for the first index at which a row of distances is least.  Here is that index as a
predicate, the fact that there is only one, and how a search by lanes and chunks arrives at it.  Nothing
here speaks of a program. -/

namespace Cert.FirstMin

/-- `i` is the first of the indices below `n` at which `d` is least. -/
structure IsFirstMin (n : ℕ) (d : ℕ → EReal) (i : ℕ) : Prop where
  lt : i < n
  least : ∀ j < n, d i ≤ d j
  first : ∀ j < i, d i < d j

variable {n : ℕ} {d : ℕ → EReal} {i j : ℕ}

/-- There is at most one first least index. -/
theorem IsFirstMin.unique (hi : IsFirstMin n d i) (hj : IsFirstMin n d j) : i = j := by
  rcases lt_trichotomy i j with h | h | h
  · exact absurd (hj.first i h) (not_lt.mpr (hi.least j hj.lt))
  · exact h
  · exact absurd (hi.first j h) (not_lt.mpr (hj.least i hi.lt))

/-- A nonempty sequence has a first least index. -/
theorem exists_isFirstMin (d : ℕ → EReal) : ∀ n, 0 < n → ∃ i, IsFirstMin n d i
  | 1, _ => ⟨0, Nat.one_pos, fun j hj => by rw [Nat.lt_one_iff.mp hj], fun j hj => absurd hj (Nat.not_lt_zero j)⟩
  | n + 2, _ => by
    obtain ⟨i, hi⟩ := exists_isFirstMin d (n + 1) (Nat.succ_pos n)
    by_cases h : d (n + 1) < d i
    · refine ⟨n + 1, Nat.lt_succ_self _, fun j hj => ?_, fun j hj => h.trans_le (hi.least j hj)⟩
      rcases Nat.lt_succ_iff_lt_or_eq.mp hj with hj | rfl
      · exact (h.trans_le (hi.least j hj)).le
      · exact le_rfl
    · refine ⟨i, hi.lt.trans (Nat.lt_succ_self _), fun j hj => ?_, hi.first⟩
      rcases Nat.lt_succ_iff_lt_or_eq.mp hj with hj | rfl
      · exact hi.least j hj
      · exact not_lt.mp h

/-! ## One lane: a running minimum and the index that gave it -/

/-- What a lane holds after `n` groups with distances `d g` and code numbers `c g`: either every distance is
infinite and the index is still zero, or the value is the least distance and the index the first group's at
which it is met. -/
def LaneHolds (n : ℕ) (d c : ℕ → EReal) (m a : EReal) : Prop :=
  (m = ⊤ ∧ a = 0 ∧ ∀ g < n, d g = ⊤) ∨ ∃ g, IsFirstMin n d g ∧ d g < ⊤ ∧ m = d g ∧ a = c g

/-- Before any group. -/
theorem laneHolds_zero (d c : ℕ → EReal) : LaneHolds 0 d c ⊤ 0 :=
  .inl ⟨rfl, rfl, fun _ h => absurd h (Nat.not_lt_zero _)⟩

/-- One more group: the value is the smaller one, and the index moves only if the new distance is strictly
below the value so far. -/
theorem LaneHolds.step {c : ℕ → EReal} {m a : EReal} (h : LaneHolds n d c m a) :
    LaneHolds (n + 1) d c (min m (d n)) (if d n < m then c n else a) := by
  have below : d n < m → ∀ j < n, d n < d j := by
    intro hlt j hj
    rcases h with ⟨-, -, ht⟩ | ⟨g, hg, -, rfl, -⟩
    · rw [ht j hj]; exact hlt.trans_le le_top
    · exact hlt.trans_le (hg.least j hj)
  by_cases hlt : d n < m
  · rw [if_pos hlt, min_eq_right hlt.le]
    refine .inr ⟨n, ⟨Nat.lt_succ_self n, fun j hj => ?_, below hlt⟩, hlt.trans_le le_top, rfl, rfl⟩
    rcases Nat.lt_succ_iff_lt_or_eq.mp hj with hj | rfl
    · exact (below hlt j hj).le
    · exact le_rfl
  · rw [if_neg hlt, min_eq_left (not_lt.mp hlt)]
    rcases h with ⟨hm, ha, ht⟩ | ⟨g, hg, hf, hm, ha⟩
    · refine .inl ⟨hm, ha, fun j hj => ?_⟩
      rcases Nat.lt_succ_iff_lt_or_eq.mp hj with hj | rfl
      · exact ht j hj
      · exact top_le_iff.mp (hm ▸ not_lt.mp hlt)
    · refine .inr ⟨g, ⟨hg.lt.trans (Nat.lt_succ_self n), fun j hj => ?_, hg.first⟩, hf, hm, ha⟩
      rcases Nat.lt_succ_iff_lt_or_eq.mp hj with hj | rfl
      · exact hg.least j hj
      · exact hm ▸ not_lt.mp hlt

/-- The value a lane holds is below each of its distances. -/
theorem LaneHolds.le {c : ℕ → EReal} {m a : EReal} (h : LaneHolds n d c m a) {g : ℕ} (hg : g < n) : m ≤ d g := by
  rcases h with ⟨-, -, ht⟩ | ⟨g', hg', -, rfl, -⟩
  · rw [ht g hg]; exact le_top
  · exact hg'.least g hg

/-! ## One chunk: 128 lanes of 32 groups -/

/-- The code at group `g` of lane `l`. -/
def code (l g : ℕ) : ℕ := 128 * g + l

/-- The number `k` as an extended real. -/
noncomputable def num (k : ℕ) : EReal := ((k : ℝ) : EReal)

/-- Numbers keep their order as extended reals. -/
theorem num_le_num {a b : ℕ} (h : a ≤ b) : num a ≤ num b :=
  EReal.coe_le_coe_iff.mpr (Nat.cast_le.mpr h)

/-- What a chunk of 4096 codes gives: either every distance is infinite and so is the minimum, or the minimum is
the least distance and the number is the first code's at which it is met. -/
def ChunkHolds (d : ℕ → EReal) (m a : EReal) : Prop :=
  (m = ⊤ ∧ ∀ j < 4096, d j = ⊤) ∨ ∃ i, IsFirstMin 4096 d i ∧ d i < ⊤ ∧ m = d i ∧ a = num i

/-- The minimum over the lanes, and the least code number among the lanes attaining it (8192 stands in for the
others), are the chunk's. -/
theorem chunkHolds_of_lanes (d : ℕ → EReal) (m a : Fin 128 → EReal)
    (h : ∀ l : Fin 128, LaneHolds 32 (fun g => d (code l g)) (fun g => num (code l g)) (m l) (a l)) :
    ChunkHolds d (Finset.univ.inf m)
      (Finset.univ.inf fun l => if m l = Finset.univ.inf m then a l else num 8192) := by
  obtain ⟨i, hi⟩ := exists_isFirstMin d 4096 (by norm_num)
  have hl : i % 128 < 128 := Nat.mod_lt _ (by norm_num)
  have hgi : i / 128 < 32 := by have := hi.lt; omega
  have hcode : code (i % 128) (i / 128) = i := Nat.div_add_mod i 128
  have code_lt : ∀ (l : Fin 128) (g : ℕ), g < 32 → code l g < 4096 := by
    intro l g hg; have := l.isLt; unfold code; omega
  have hlow : ∀ l, d i ≤ m l := by
    intro l
    rcases h l with ⟨hm, -, -⟩ | ⟨g, hg, -, hm, -⟩
    · rw [hm]; exact le_top
    · rw [hm]; exact hi.least _ (code_lt l g hg.lt)
  have hmin : Finset.univ.inf m = d i := by
    refine le_antisymm ?_ (Finset.le_inf fun l _ => hlow l)
    refine (Finset.inf_le (Finset.mem_univ (⟨i % 128, hl⟩ : Fin 128))).trans ?_
    have := (h ⟨i % 128, hl⟩).le hgi
    simpa only [hcode] using this
  rcases eq_or_lt_of_le (le_top (a := d i)) with htop | hfin
  · exact .inl ⟨hmin.trans htop, fun j hj => top_le_iff.mp (htop ▸ hi.least j hj)⟩
  · refine .inr ⟨i, hi, hfin, hmin, ?_⟩
    rw [hmin]
    refine le_antisymm ?_ (Finset.le_inf fun l _ => ?_)
    · refine (Finset.inf_le (Finset.mem_univ (⟨i % 128, hl⟩ : Fin 128))).trans ?_
      rcases h ⟨i % 128, hl⟩ with ⟨-, -, ht⟩ | ⟨g, hg, -, hm, ha⟩
      · exact absurd (by simpa only [hcode] using ht _ hgi) hfin.ne
      · have heq : d (code (i % 128) g) = d i := by
          refine le_antisymm ?_ (hi.least _ (code_lt ⟨i % 128, hl⟩ g hg.lt))
          simpa only [hcode] using hg.least _ hgi
        rw [if_pos (hm.trans heq), ha]
        refine num_le_num ?_
        have hng : ¬ i / 128 < g := fun hlt => by
          have := hg.first _ hlt
          simp only [hcode, heq, lt_self_iff_false] at this
        show 128 * g + i % 128 ≤ i
        omega
    · split_ifs with he
      · rcases h l with ⟨hm, -, -⟩ | ⟨g, hg, -, hm, ha⟩
        · exact absurd (hm.symm.trans he) hfin.ne'
        · rw [ha]
          refine num_le_num (not_lt.mp fun hlt => ?_)
          exact absurd (hm.symm.trans he) (hi.first _ hlt).ne'
      · exact num_le_num (hi.lt.le.trans (by norm_num))

/-! ## The two chunks of a row -/

/-- The second chunk's number is taken only if its minimum is strictly below the first's; what results is the
first least index over all 8192 codes. -/
theorem isFirstMin_of_chunks (d : ℕ → EReal) {m₀ a₀ m₁ a₁ : EReal} (h₀ : ChunkHolds d m₀ a₀)
    (h₁ : ChunkHolds (fun j => d (4096 + j)) m₁ a₁) :
    ∃ i, IsFirstMin 8192 d i ∧
      (if m₁ < (if m₀ < ⊤ then m₀ else ⊤) then a₁ + num 4096 else if m₀ < ⊤ then a₀ + 0 else 0) = num i := by
  have hm₀ : (if m₀ < ⊤ then m₀ else ⊤) = m₀ := by
    split_ifs with h
    · rfl
    · exact (not_lt_top_iff.mp h).symm
  have low : ∀ j < 4096, m₀ ≤ d j := by
    intro j hj
    rcases h₀ with ⟨-, ht⟩ | ⟨i, hi, -, rfl, -⟩
    · rw [ht j hj]; exact le_top
    · exact hi.least j hj
  have high : ∀ j, 4096 ≤ j → j < 8192 → m₁ ≤ d j := by
    intro j hj hj'
    have e : 4096 + (j - 4096) = j := by omega
    rcases h₁ with ⟨-, ht⟩ | ⟨i, hi, -, rfl, -⟩
    · have this : d (4096 + (j - 4096)) = ⊤ := ht (j - 4096) (by omega)
      rw [e] at this; rw [this]; exact le_top
    · have this : d (4096 + i) ≤ d (4096 + (j - 4096)) := hi.least (j - 4096) (by omega)
      rwa [e] at this
  rw [hm₀]
  by_cases hlt : m₁ < m₀
  · rw [if_pos hlt]
    rcases h₁ with ⟨rfl, -⟩ | ⟨i, hi, -, hm, ha⟩
    · exact absurd hlt not_top_lt
    · have hm : m₁ = d (4096 + i) := hm
      refine ⟨4096 + i, ⟨by have := hi.lt; omega, fun j hj => ?_, fun j hj => ?_⟩, ?_⟩
      · rcases lt_or_ge j 4096 with h | h
        · exact hm ▸ (hlt.trans_le (low j h)).le
        · exact hm ▸ high j h hj
      · rcases lt_or_ge j 4096 with h | h
        · exact hm ▸ hlt.trans_le (low j h)
        · have this : d (4096 + i) < d (4096 + (j - 4096)) := hi.first (j - 4096) (by omega)
          rwa [show 4096 + (j - 4096) = j by omega] at this
      · rw [ha]; unfold num; rw [← EReal.coe_add, Nat.cast_add, add_comm]
  · rw [if_neg hlt]
    rcases h₀ with ⟨rfl, ht⟩ | ⟨i, hi, hf, hm, ha⟩
    · refine ⟨0, ⟨by norm_num, fun j hj => ?_, fun j hj => absurd hj (Nat.not_lt_zero j)⟩, ?_⟩
      · rw [ht 0 (by norm_num)]
        rcases lt_or_ge j 4096 with h | h
        · rw [ht j h]
        · exact (not_lt.mp hlt).trans (high j h hj)
      · rw [if_neg (lt_irrefl _)]; simp [num]
    · refine ⟨i, ⟨hi.lt.trans (by norm_num), fun j hj => ?_, hi.first⟩, ?_⟩
      · rcases lt_or_ge j 4096 with h | h
        · exact hi.least j h
        · exact hm ▸ (not_lt.mp hlt).trans (high j h hj)
      · rw [if_pos (hm ▸ hf), ha, add_zero]

end Cert.FirstMin
-- ==== Proof.BlockValue.lean ====
module

public import proofs.«01_k».proof.Proof.Scan
public import proofs.«01_k».proof.Proof.FirstMin
public import Idealize.ShloMosaic.Lib.ValueIdx
public import Idealize.ShloMosaic.Lib.ValueLayout
public import Idealize.ShloMosaic.Lib.ValueLayoutCasts
public import Idealize.ShloMosaic.Lib.Pipeline.Value

@[expose] public section

noncomputable section

/-! # The scan of one block, read at a row, on the extended reals

Every vector of the scan is read at an index; the outcome is that the number stored for a row is its first
least index among the 8192 distances. -/

namespace Cert.BlockValue

open Idealize.ShloMosaic Idealize.ShloMosaic.ValueIdx Cert.KernelIdeal Cert.KernelIdeal.Gen Cert.Scan Cert.FirstMin

/-! ## Constants -/

/-- An f32 word with sign bit clear, exponent between 1 and 150, and significand such that the word is the
natural number `n`. -/
def IsNatWord (b : BitVec 32) (n : ℕ) : Prop :=
  b.extractLsb' 31 1 = 0#1 ∧ 0 < (b.extractLsb' 23 8).toNat ∧ (b.extractLsb' 23 8).toNat ≤ 150 ∧
    2 ^ 23 + (b.extractLsb' 0 23).toNat = n * 2 ^ (150 - (b.extractLsb' 23 8).toNat)

instance (b : BitVec 32) (n : ℕ) : Decidable (IsNatWord b n) := by unfold IsNatWord; infer_instance

/-- Such a word denotes that number. -/
theorem ofBits_of_isNatWord {b : BitVec 32} {n : ℕ} (h : IsNatWord b n) : Ideal.ofBits .f32 b = num n := by
  obtain ⟨hs, he, he', hm⟩ := h
  have e : ∀ k : ℕ, k ≤ 150 → (n * 2 ^ (150 - k) : ℕ) * (2 : ℝ) ^ ((k : ℤ) - 150) = n := by
    intro k hk
    rw [show (k : ℤ) - 150 = -((150 - k : ℕ) : ℤ) by omega, zpow_neg, zpow_natCast, Nat.cast_mul, Nat.cast_pow,
      Nat.cast_ofNat, mul_assoc, mul_inv_cancel₀ (by positivity), mul_one]
  have hx : ¬ (b.extractLsb' 23 8).toNat = 2 ^ 8 - 1 := by omega
  have hx' : ¬ (b.extractLsb' 23 8).toNat = 0 := by omega
  show Ideal.ieee 8 23 b = num n
  unfold Ideal.ieee num
  simp only [Nat.reduceAdd, hs]
  rw [if_neg hx, if_neg hx']
  refine congrArg _ ?_
  rw [hm]
  simp only [show ((0#1 == 1#1) = true) = False by decide, if_false, one_mul]
  refine Eq.trans ?_ (e _ he')
  congr 2
  norm_num
  ring

/-- The constant added in group `g` is `128 * g`. -/
theorem ofBits_offBits {g : ℕ} (h : g < 32) : Ideal.ofBits .f32 (offBits g) = num (128 * g) := by
  rcases Nat.eq_zero_or_pos g with rfl | hg
  · rw [show offBits 0 = 0x00000000#32 from rfl, Ideal.ofBits_zero_f32]; simp [num]
  · exact ofBits_of_isNatWord
      ((by decide : ∀ k : Fin 32, 0 < k.val → IsNatWord (offBits k.val) (128 * k.val)) ⟨g, h⟩ hg)

/-- The starting value of every running minimum is the top value. -/
theorem ofBits_inf : Ideal.ofBits .f32 0x7F800000#32 = ⊤ := by
  simp [Ideal.ofBits, Ideal.ieee]

/-- The number standing in for lanes that miss the minimum. -/
theorem ofBits_8192 : Ideal.ofBits .f32 0x46000000#32 = num 8192 := ofBits_of_isNatWord (by decide)

/-- The number of the first code of the second chunk. -/
theorem ofBits_4096 : Ideal.ofBits .f32 0x45800000#32 = num 4096 := ofBits_of_isNatWord (by decide)

/-! ## Comparisons -/

/-- A select on "strictly less". -/
theorem select_olt {α : Type} (x y : EReal) (a b : α) :
    Scalar.select (FloatOps.cmpf (F := Ideal) (φ := .f32) .olt x y) a b = if x < y then a else b := by
  rw [Ideal.cmpf_def]; unfold Ideal.cmp Scalar.select
  by_cases h : x < y <;> simp [h]

/-- A select on "equal". -/
theorem select_oeq {α : Type} (x y : EReal) (a b : α) :
    Scalar.select (FloatOps.cmpf (F := Ideal) (φ := .f32) .oeq x y) a b = if x = y then a else b := by
  rw [Ideal.cmpf_def]; unfold Ideal.cmp Scalar.select
  by_cases h : x = y <;> simp [h]

/-! ## One group at an index -/

/-- Row `8 p + q` of the block, at sublane `q` of tile `p`. -/
def row (p : Fin 256) (q : Fin 8) : Fin 2048 := ⟨8 * p.val + q.val, by have := p.isLt; have := q.isLt; omega⟩

/-- Code `128 g + l` of the chunk. -/
def col (g : ℕ) (hg : g < 32) (l : Fin 128) : Fin 4096 := ⟨code l g, by have := l.isLt; unfold code; omega⟩

variable (zn : FVec Ideal S2048x1 .f32) (cn : FVec Ideal S4096 .f32) (cv : FVec Ideal S2048x4096 .f32)
  (ids : FVec Ideal S8x128 .f32)

/-- The distance of row `8 p + q` to code `128 g + l`. -/
theorem dist_apply (g : ℕ) (hg : g < 32) (p : Fin 256) (q : Fin 8) (l : Fin 128) :
    dist zn cn cv g hg (ix3 p q l)
      = zn (ix2 (row p q) (0 : Fin 1)) - cv (ix2 (row p q) (col g hg l)) + cn (ix1 (col g hg l)) := by
  unfold Scan.dist
  refine (shapeCast_apply _ _ _ (ix2 (row p q) l) ?_).trans ?_
  · rw [Shape.rowMajor_val_two, Shape.rowMajor_val_three]
    show (8 * p.val + q.val) * 128 + l.val = (p.val * 8 + q.val) * 128 + l.val
    omega
  rw [addf_apply, subf_apply]
  congr 1
  · congr 1
    · exact broadcastTo_apply _ _ _ (ix2 (row p q) (0 : Fin 1)) fun a => match a with | ⟨0, _⟩ => rfl | ⟨1, _⟩ => rfl
    · exact slice2_axis1_apply _ _ _ _ _ _ rfl
  · rw [broadcastTo_1b_ab_apply, shapeCast_a_1a_apply]
    exact extractStridedSlice_apply _ _ _ _ _ fun a => match a with | ⟨0, _⟩ => rfl

/-- The code number a lane proposes in group `g`. -/
theorem codeIds_apply (g : ℕ) (p : Fin 256) (q : Fin 8) (l : Fin 128) :
    codeIds ids g (ix3 p q l) = ids (ix2 q l) + Ideal.ofBits .f32 (offBits g) := by
  unfold codeIds
  rw [shapeCast_self]
  refine (broadcastTo_apply _ _ _ (ix3 (0 : Fin 1) q l) fun a => match a with | ⟨0, _⟩ => rfl | ⟨1, _⟩ => rfl | ⟨2, _⟩ => rfl).trans ?_
  rw [shapeCast_ab_1ab_apply]
  rfl

/-! ## One lane after its groups -/

/-- The distance read off the block's three vectors, as a sequence over the chunk's codes. -/
def IsDist (r : Fin 2048) (d : ℕ → EReal) : Prop :=
  ∀ j : Fin 4096, zn (ix2 r (0 : Fin 1)) - cv (ix2 r j) + cn (ix1 j) = d j.val

variable {zn cn cv ids}

/-- After `n` groups the two running vectors hold, at each lane, the minimum so far and where it was met. -/
theorem lane_holds {d : ℕ → EReal} (p : Fin 256) (q : Fin 8) (l : Fin 128) (hd : IsDist zn cn cv (row p q) d)
    (hids : ids (ix2 q l) = num l) : ∀ (n : ℕ) (h : n ≤ 32),
    LaneHolds n (fun g => d (code l g)) (fun g => num (code l g)) (minAfter zn cn cv n h (ix3 p q l))
      (argAfter ids zn cn cv n h (ix3 p q l))
  | 0, _ => by
    show LaneHolds 0 _ _ (Ideal.ofBits .f32 0x7F800000#32) (Ideal.ofBits .f32 0x00000000#32)
    rw [ofBits_inf, Ideal.ofBits_zero_f32]
    exact laneHolds_zero _ _
  | n + 1, h => by
    have ih := (lane_holds p q l hd hids n (Nat.le_of_succ_le h)).step
    have hdist : dist zn cn cv n h (ix3 p q l) = d (code l n) := (dist_apply zn cn cv n h p q l).trans (hd (col n h l))
    have hcode : codeIds ids n (ix3 p q l) = num (code l n) := by
      rw [codeIds_apply, hids, ofBits_offBits h]
      unfold num code
      rw [← EReal.coe_add, ← Nat.cast_add, add_comm]
    unfold minAfter argAfter
    rw [minimumf_apply, select_apply, cmpf_apply, select_olt, hdist, hcode]
    exact ih

/-! ## One chunk at a row -/

/-- The chunk's minimum at a row is the infimum over the lanes. -/
theorem chunkMin_apply (p : Fin 256) (q : Fin 8) :
    chunkMin zn cn cv (ix1 (row p q)) = Finset.univ.inf fun l : Fin 128 => minAfter zn cn cv 32 le_rfl (ix3 p q l) := by
  unfold chunkMin
  refine (multiReduction_minimumf_eq_fold _ _ _ _ _ _).trans ?_
  rw [Shape.Reduces.fold_filter_drop_single]
  show Finset.fold min (Ideal.ofBits .f32 0x7F800000#32) _ _ = _
  rw [ofBits_inf]
  refine Finset.fold_congr fun l _ => ?_
  refine shapeCast_apply _ _ _ (ix3 p q l) ?_
  rw [Shape.rowMajor_val_two, Shape.rowMajor_val_three]
  show (p.val * 8 + q.val) * 128 + l.val = (8 * p.val + q.val) * 128 + l.val
  omega

/-- The chunk's code number at a row is the infimum, over the lanes that attain the minimum, of the numbers they hold. -/
theorem chunkArg_apply (p : Fin 256) (q : Fin 8) :
    chunkArg ids zn cn cv (ix1 (row p q)) = Finset.univ.inf fun l : Fin 128 =>
      if minAfter zn cn cv 32 le_rfl (ix3 p q l) = chunkMin zn cn cv (ix1 (row p q))
      then argAfter ids zn cn cv 32 le_rfl (ix3 p q l) else num 8192 := by
  unfold chunkArg
  refine (shapeCast_apply _ _ _ (ix2 p q) ?_).trans ?_
  · rw [Shape.rowMajor_val_two, Shape.rowMajor_val_one]
    show p.val * 8 + q.val = 8 * p.val + q.val
    omega
  refine (multiReduction_minimumf_eq_fold _ _ _ _ _ _).trans ?_
  rw [Shape.Reduces.fold_filter_drop_single]
  show Finset.fold min (Ideal.ofBits .f32 0x7F800000#32) _ _ = _
  rw [ofBits_inf]
  refine Finset.fold_congr fun (l : Fin 128) _ => ?_
  have hlift : reduces_S256x8x128_S256x8.lift (ix2 p q) l = ix3 p q l := by
    funext a; match a with | ⟨0, _⟩ => rfl | ⟨1, _⟩ => rfl | ⟨2, _⟩ => rfl
  have hb : broadcastTo S256x8x128 (shapeCast S256x8x1 (chunkMin zn cn cv) shapeCasts_S2048_S256x8x1)
      broadcasts_S256x8x1_S256x8x128 (ix3 p q l) = chunkMin zn cn cv (ix1 (row p q)) := by
    refine (broadcastTo_apply _ _ _ (ix3 p q (0 : Fin 1)) fun a =>
      match a with | ⟨0, _⟩ => rfl | ⟨1, _⟩ => rfl | ⟨2, _⟩ => rfl).trans ?_
    refine shapeCast_apply _ _ _ (ix1 (row p q)) ?_
    rw [Shape.rowMajor_val_three, Shape.rowMajor_val_one]
    show 8 * p.val + q.val = (p.val * 8 + q.val) * 1 + 0
    omega
  refine (congrArg _ hlift).trans ((select_oeq _ _ _ _).trans ?_)
  rw [hb]
  refine congrArg _ ?_
  exact ofBits_8192

/-- A chunk's minimum and code number at a row are those of its distances. -/
theorem chunk_holds {d : ℕ → EReal} (p : Fin 256) (q : Fin 8) (hd : IsDist zn cn cv (row p q) d)
    (hids : ∀ l : Fin 128, ids (ix2 q l) = num l) :
    ChunkHolds d (chunkMin zn cn cv (ix1 (row p q))) (chunkArg ids zn cn cv (ix1 (row p q))) := by
  rw [chunkArg_apply, chunkMin_apply]
  exact chunkHolds_of_lanes d _ _ fun l => lane_holds p q l hd (hids l) 32 le_rfl

/-! ## The stored number -/

/-- A natural number below 8192 converts to its own 32-bit word. -/
theorem fptosi_num {i : ℕ} (h : i < 8192) : Ideal.fptosi 32 (num i) = BitVec.ofNat 32 i := by
  unfold Ideal.fptosi num
  rw [Ideal.toIntClamped_coe, if_pos (Nat.cast_nonneg i), Int.floor_natCast]
  rw [max_eq_right (by rw [min_eq_right (by norm_num; omega)]; norm_num), min_eq_right (by norm_num; omega)]
  exact BitVec.ofInt_natCast 32 i

/-- The word stored for a row is its first least index over both chunks. -/
theorem stored_apply {cn₁ : FVec Ideal S4096 .f32} {cv₁ : FVec Ideal S2048x4096 .f32} {d : ℕ → EReal}
    (r : Fin 2048) (h₀ : IsDist zn cn cv r d) (h₁ : IsDist zn cn₁ cv₁ r fun j => d (4096 + j))
    (hids : ∀ (q : Fin 8) (l : Fin 128), ids (ix2 q l) = num l) :
    ∃ i, IsFirstMin 8192 d i ∧
      stored ids zn cn cv cn₁ cv₁ (ix3 (0 : Fin 1) (0 : Fin 1) r) = BitVec.ofNat 32 i := by
  obtain ⟨p, q, rfl⟩ : ∃ (p : Fin 256) (q : Fin 8), r = row p q :=
    ⟨⟨r.val / 8, by have := r.isLt; omega⟩, ⟨r.val % 8, Nat.mod_lt _ (by norm_num)⟩,
      Fin.ext (Nat.div_add_mod r.val 8).symm⟩
  obtain ⟨i, hi, he⟩ := isFirstMin_of_chunks d (chunk_holds p q h₀ (hids q)) (chunk_holds p q h₁ (hids q))
  refine ⟨i, hi, ?_⟩
  unfold stored
  refine (shapeCast_apply _ _ _ (ix1 (row p q)) ?_).trans ?_
  · rw [Shape.rowMajor_val_three, Shape.rowMajor_val_one]
    show (row p q).val = (0 * 1 + 0) * 2048 + (row p q).val
    omega
  show Ideal.fptosi 32 (lastIdx ids zn cn cv cn₁ cv₁ (ix1 (row p q))) = _
  rw [← fptosi_num hi.lt, ← he]
  refine congrArg _ ?_
  unfold lastIdx firstVal firstIdx
  simp only [select_apply, cmpf_apply, select_olt, addf_apply, extf_apply, truncf_apply, broadcast_apply]
  show (if _ < (if _ < Ideal.ofBits .f32 0x7F800000#32 then _ else Ideal.ofBits .f32 0x7F800000#32) then
    _ + Ideal.ofBits .f32 0x45800000#32 else if _ < Ideal.ofBits .f32 0x7F800000#32 then
      _ + Ideal.ofBits .f32 0x00000000#32 else Ideal.ofBits .f32 0x00000000#32) = _
  simp only [ofBits_inf, ofBits_4096, Ideal.ofBits_zero_f32]

end Cert.BlockValue
-- ==== Proof.Distance.lean ====
module

public import Idealize.ShloMosaic.Lib.ValueIdx
public import proofs.«01_k».proof.Proof.FirstMin

@[expose] public section

noncomputable section

/-! # The distance of a vector to a code

The vectors are the columns of a 16 × 32 × 1024 array, numbered row by row of the 16 × 1024 array of
answers; the codes are the rows of the 8192 × 32 codebook. -/

namespace Cert.Distance

open Idealize.ShloMosaic Idealize.ShloMosaic.ValueIdx

/-- Component `k` of vector number `n`: the vector at batch `n / 1024` and time `n % 1024`. -/
def comp (x : FVec Ideal ⟨3, ![16, 32, 1024]⟩ .f32) (n : Fin 16384) (k : Fin 32) : EReal :=
  x (ix3 (⟨n.val / 1024, by have := n.isLt; omega⟩ : Fin 16) k (⟨n.val % 1024, Nat.mod_lt _ (by norm_num)⟩ : Fin 1024))

/-- The number two, as the word both programs write for it. -/
def two : EReal := Ideal.ofBits .f32 0x40000000#32

/-- The squared distance of vector `n` to code `j`, its square expanded: the vector's squared norm, minus twice the
inner product, plus the code's squared norm. -/
def toCode (x : FVec Ideal ⟨3, ![16, 32, 1024]⟩ .f32) (e : FVec Ideal ⟨2, ![8192, 32]⟩ .f32) (n : Fin 16384)
    (j : Fin 8192) : EReal :=
  (∑ k : Fin 32, comp x n k * comp x n k) - (∑ k : Fin 32, two * comp x n k * e (ix2 j k))
    + ∑ k : Fin 32, e (ix2 j k) * e (ix2 j k)

/-- The same for code number `j` as a natural number (zero past the last code, where it is never asked). -/
def toNth (x : FVec Ideal ⟨3, ![16, 32, 1024]⟩ .f32) (e : FVec Ideal ⟨2, ![8192, 32]⟩ .f32) (n : Fin 16384)
    (j : ℕ) : EReal :=
  if h : j < 8192 then toCode x e n ⟨j, h⟩ else 0

/-- At an index that is a code, the sequence of distances gives the distance to that code. -/
theorem toNth_eq {x : FVec Ideal ⟨3, ![16, 32, 1024]⟩ .f32} {e : FVec Ideal ⟨2, ![8192, 32]⟩ .f32} {n : Fin 16384}
    {j : ℕ} (h : j < 8192) : toNth x e n j = toCode x e n ⟨j, h⟩ := dif_pos h

end Cert.Distance
-- ==== Proof.Inputs.lean ====
module

public import proofs.«01_k».proof.Proof.Gen.KernelIdeal.Frame
public import proofs.«01_k».proof.Proof.Distance
public import Idealize.ShloMosaic.Lib.ValueLayout
public import Idealize.ShloMosaic.Lib.ValueLayoutCasts
public import Idealize.ShloMosaic.Lib.IdealHost
public import Idealize.ShloMosaic.Lib.Pipeline.Value
public import Idealize.ShloMosaic.Lib.StableHlo.RunRead
public import Idealize.ShloMosaic.Lib.WordCmp

@[expose] public section

noncomputable section

/-! # What the kernel's blocks hold

The arrays the kernel reads are written before it starts: the vectors as rows, twice the vectors, the lane
numbers; the codebook is an argument.  Each is read here at an index, and then through the block a grid point
is given. -/

namespace Cert.Inputs

open Cert.KernelIdeal Cert.KernelIdeal.Gen Cert.Distance Cert.FirstMin
open Idealize.ShloMosaic Idealize.ShloMosaic.TcCoe Idealize.ShloMosaic.ValueIdx

variable (m : (ℓ : Loc nD τ sig) → Buf (Elt Ideal) ℓ) (c : Dev nD)

/-- The array of vectors, as launched. -/
abbrev vecs : FVec Ideal ⟨3, ![16, 32, 1024]⟩ .f32 := m ((c.tc : Thread nD τ).loc main_arg0)

/-- The codebook, as launched. -/
abbrev book : FVec Ideal ⟨2, ![8192, 32]⟩ .f32 := m ((c.tc : Thread nD τ).loc main_arg1)

/-- The array of rows is the array of vectors with its last two axes swapped, read in row-major order. -/
theorem rows_eq : V m c main_v1
    = shapeCast S16384x32 (transpose S16x1024x32 [0, 2, 1] (vecs m c) transposes_S16x32x1024_S16x1024x32_0_2_1)
        shapeCasts_S16x1024x32_S16384x32 := by
  unfold V V0 vecs
  simp only [List.flatten_cons, List.flatten_nil, List.append_nil]
  after_reads_simp
  rfl

/-- A row of that re-laid array is a vector. -/
theorem relaid_apply (x : FVec Ideal ⟨3, ![16, 32, 1024]⟩ .f32) (n : Fin 16384) (k : Fin 32) :
    shapeCast S16384x32 (transpose S16x1024x32 [0, 2, 1] x transposes_S16x32x1024_S16x1024x32_0_2_1)
      shapeCasts_S16x1024x32_S16384x32 (ix2 n k) = comp x n k := by
  refine (shapeCast_apply _ _ _ (ix3 (⟨n.val / 1024, by have := n.isLt; omega⟩ : Fin 16)
    (⟨n.val % 1024, Nat.mod_lt _ (by norm_num)⟩ : Fin 1024) k) ?_).trans ?_
  · rw [Shape.rowMajor_val_two, Shape.rowMajor_val_three]
    show (n.val / 1024 * 1024 + n.val % 1024) * 32 + k.val = n.val * 32 + k.val
    rw [Nat.div_add_mod']
  · exact transpose_ix3_021_apply x _ _ _ _

/-- Row `n` of the array of rows is vector `n`. -/
theorem rows_apply (n : Fin 16384) (k : Fin 32) : V m c main_v1 (ix2 n k) = comp (vecs m c) n k :=
  (congrFun (rows_eq m c) (ix2 n k)).trans (relaid_apply _ n k)

/-- Row `n` of the array of doubled rows is twice vector `n`. -/
theorem doubled_apply (n : Fin 16384) (k : Fin 32) : V m c main_v4 (ix2 n k) = two * comp (vecs m c) n k := by
  have h : V m c main_v4 = truncf .bf16 (mulf (broadcastInDim S16384x32 ![] bcast_S_S16384x32
      (constant S_ .f32 0x40000000#32)) (shapeCast S16384x32
        (transpose S16x1024x32 [0, 2, 1] (vecs m c) transposes_S16x32x1024_S16x1024x32_0_2_1)
        shapeCasts_S16x1024x32_S16384x32)) bitsLt_bf16_f32 := by
    unfold V V0 vecs
    simp only [List.flatten_cons, List.flatten_nil, List.append_nil]
    after_reads_simp
    rfl
  refine (congrFun h (ix2 n k)).trans ?_
  rw [truncf_apply, mulf_apply, relaid_apply]
  rfl

/-- Lane `l` of every row of the array of lane numbers holds `l`. -/
theorem lanes_apply (q : Fin 8) (l : Fin 128) : V m c main_v7 (ix2 q l) = num l := by
  have h : V m c main_v7 = broadcastInDim S8x128 ![0, 1] bcast_S1x128_S8x128_0_1
      (broadcastInDim S1x128 ![1] bcast_S128_S1x128_1 (sitofp .f32 (iotaInDim S128 32 0) : FVec Ideal S128 .f32)) := by
    unfold V V0
    simp only [List.flatten_cons, List.flatten_nil, List.append_nil]
    after_reads_simp
    try rfl
  refine (congrFun h (ix2 q l)).trans ?_
  refine (broadcastInDim_apply _ _ _ _ (ix2 (0 : Fin 1) l) fun a => match a with | ⟨0, _⟩ => rfl | ⟨1, _⟩ => rfl).trans ?_
  refine (broadcastInDim_apply _ _ _ _ (ix1 l) fun a => match a with | ⟨0, _⟩ => rfl).trans ?_
  show (((BitVec.ofNat 32 l.val).toInt : ℝ) : EReal) = ((l.val : ℝ) : EReal)
  rw [WordCmp.toInt_ofNat_of_lt (by have := l.isLt; omega)]
  simp

/-! ## The blocks -/

/-- Vector number of row `r` of block `t`. -/
def rowOf (t : Fin cfg0.N) (r : Fin 2048) : Fin 16384 :=
  ⟨2048 * t.val + r.val, by have := t.isLt; have : cfg0.N = 8 := N_0; have := r.isLt; omega⟩

/-- A block of rows starts at row `2048 t`. -/
theorem moving_index : ∀ t : Fin cfg0.N, win0_0.index t 0 = t.val ∧ win0_0.index t 1 = 0 ∧ win0_1.index t 0 = t.val
    ∧ win0_1.index t 1 = 0 ∧ win0_4.index t 0 = t.val ∧ win0_4.index t 1 = 0 ∧ win0_4.index t 2 = 0 :=
  (by decide +kernel : ∀ t : Fin grid0.N, _)

/-- The codebook's and the lane numbers' block is the whole array at every point. -/
theorem fixed_index : ∀ t : Fin cfg0.N, win0_2.index t 0 = 0 ∧ win0_2.index t 1 = 0 ∧ win0_3.index t 0 = 0
    ∧ win0_3.index t 1 = 0 :=
  (by decide +kernel : ∀ t : Fin grid0.N, _)

/-- Block `t` of the first operand holds the doubled vectors of its rows. -/
theorem block0_apply (t : Fin cfg0.N) (r : Fin 2048) (k : Fin 32) :
    iblk m c 0 t (ix2 r k) = two * comp (vecs m c) (rowOf t r) k := by
  refine Eq.trans ?_ (doubled_apply m c (rowOf t r) k)
  refine congrArg (V m c main_v4) (funext fun a => Fin.ext ?_)
  refine (win0_0.rect_emb_val t (ix2 r k) a).trans ?_
  match a with
  | ⟨0, _⟩ =>
    show win0_0.index t 0 * 2048 + r.val = 2048 * t.val + r.val
    rw [(moving_index t).1]; omega
  | ⟨1, _⟩ =>
    show win0_0.index t 1 * 32 + k.val = k.val
    rw [(moving_index t).2.1]; omega

/-- Block `t` of the second operand holds the vectors of its rows. -/
theorem block1_apply (t : Fin cfg0.N) (r : Fin 2048) (k : Fin 32) :
    iblk m c 1 t (ix2 r k) = comp (vecs m c) (rowOf t r) k := by
  refine Eq.trans ?_ (rows_apply m c (rowOf t r) k)
  refine congrArg (V m c main_v1) (funext fun a => Fin.ext ?_)
  refine (win0_1.rect_emb_val t (ix2 r k) a).trans ?_
  match a with
  | ⟨0, _⟩ =>
    show win0_1.index t 0 * 2048 + r.val = 2048 * t.val + r.val
    rw [(moving_index t).2.2.1]; omega
  | ⟨1, _⟩ =>
    show win0_1.index t 1 * 32 + k.val = k.val
    rw [(moving_index t).2.2.2.1]; omega

/-- Every block of the third operand is the whole codebook. -/
theorem block2_apply (t : Fin cfg0.N) (j : Fin 8192) (k : Fin 32) :
    iblk m c 2 t (ix2 j k) = book m c (ix2 j k) := by
  refine Eq.trans ?_ (congrFun (V_main_arg1 m c) (ix2 j k))
  refine congrArg (V m c main_arg1) (funext fun a => Fin.ext ?_)
  refine (win0_2.rect_emb_val t (ix2 j k) a).trans ?_
  match a with
  | ⟨0, _⟩ =>
    show win0_2.index t 0 * 8192 + j.val = j.val
    rw [(fixed_index t).1]; omega
  | ⟨1, _⟩ =>
    show win0_2.index t 1 * 32 + k.val = k.val
    rw [(fixed_index t).2.1]; omega

/-- Every block of the fourth operand holds the lane numbers. -/
theorem block3_apply (t : Fin cfg0.N) (q : Fin 8) (l : Fin 128) : iblk m c 3 t (ix2 q l) = num l := by
  refine Eq.trans ?_ (lanes_apply m c q l)
  refine congrArg (V m c main_v7) (funext fun a => Fin.ext ?_)
  refine (win0_3.rect_emb_val t (ix2 q l) a).trans ?_
  match a with
  | ⟨0, _⟩ =>
    show win0_3.index t 0 * 8 + q.val = q.val
    rw [(fixed_index t).2.2.1]; omega
  | ⟨1, _⟩ =>
    show win0_3.index t 1 * 128 + l.val = l.val
    rw [(fixed_index t).2.2.2]; omega

end Cert.Inputs
-- ==== Proof.KernelValue.lean ====
module

public import proofs.«01_k».proof.Proof.BlockValue
public import proofs.«01_k».proof.Proof.Inputs
public import Idealize.ShloMosaic.Lib.MatmulPlain

@[expose] public section

noncomputable section

/-! # What the kernel leaves in its result

Block `t` of the kernel's output holds, for each of its 2048 rows, the number of the nearest code; the result
is that output laid out as a 16 × 1024 array. -/

namespace Cert.KernelValue

open Cert.KernelIdeal Cert.KernelIdeal.Gen Cert.Scan Cert.FirstMin Cert.BlockValue Cert.Distance Cert.Inputs
open Idealize.ShloMosaic Idealize.ShloMosaic.TcCoe Idealize.ShloMosaic.ValueIdx
open Idealize.ShloMosaic.Pipeline (Dat)

/-! ## Norms and products of a block -/

/-- The sum over a row of a vector's squares. -/
theorem rowNorm_apply (x : Vec Ideal S2048x32 .f32) (r : Fin 2048) :
    k0_pay4 x (ix2 r (0 : Fin 1)) = ∑ k : Fin 32, x (ix2 r k) * x (ix2 r k) := by
  unfold k0_pay4
  rw [shapeCast_self]
  refine (shapeCast_a_a1_apply _ _ r 0).trans ?_
  refine (Ideal.multiReduction_add_single _ _ _ _ _ _).trans (Finset.sum_congr rfl fun (k : Fin 32) _ => ?_)
  have hlift : reduces_S2048x32_S2048.lift (ix1 r) k = ix2 r k := by
    funext a; match a with | ⟨0, _⟩ => rfl | ⟨1, _⟩ => rfl
  exact congrArg (fun i => x i * x i) hlift

/-- The sum over a code of its squares. -/
theorem codeNorm_apply (y : Vec Ideal S4096x32 .f32) (j : Fin 4096) :
    k0_pay7 y (ix1 j) = ∑ k : Fin 32, y (ix2 j k) * y (ix2 j k) := by
  unfold k0_pay7
  refine (Ideal.multiReduction_add_single _ _ _ _ _ _).trans (Finset.sum_congr rfl fun (k : Fin 32) _ => ?_)
  have hlift : reduces_S4096x32_S4096.lift (ix1 j) k = ix2 j k := by
    funext a; match a with | ⟨0, _⟩ => rfl | ⟨1, _⟩ => rfl
  exact congrArg (fun i => y i * y i) hlift

/-- The inner product of a row of the block and a code of the chunk. -/
theorem product_apply (x : Vec Ideal S2048x32 .bf16) (y : Vec Ideal S4096x32 .f32) (r : Fin 2048) (j : Fin 4096) :
    k0_pay8 x y (ix2 r j) = ∑ k : Fin 32, x (ix2 r k) * y (ix2 j k) := by
  unfold k0_pay8 k0_pay2
  rw [shapeCast_self]
  refine (Ideal.matmul_transposedRhs_apply (M := 2048) (K := 32) (N := 4096) none x y _ r j).trans ?_
  show Ideal.ofBits .f32 0x00000000#32 + _ = _
  rw [Ideal.ofBits_zero_f32, zero_add]

/-! ## The two chunks of the codebook -/

/-- Code `j` of the first chunk is code `j`. -/
theorem chunk0_apply (x : Vec Ideal S8192x32 .f32) (j : Fin 4096) (k : Fin 32) :
    View.ld x r0_2 (ix2 j k) = x (ix2 (⟨j.val, by have := j.isLt; omega⟩ : Fin 8192) k) := by
  rw [View.ld_unit]
  exact extractStridedSlice_apply _ _ _ _ _ fun a => match a with
    | ⟨0, _⟩ => (Nat.zero_add _).symm | ⟨1, _⟩ => (Nat.zero_add _).symm

/-- Code `j` of the second chunk is code `4096 + j`. -/
theorem chunk1_apply (x : Vec Ideal S8192x32 .f32) (j : Fin 4096) (k : Fin 32) :
    View.ld x r0_3 (ix2 j k) = x (ix2 (⟨4096 + j.val, by have := j.isLt; omega⟩ : Fin 8192) k) := by
  rw [View.ld_unit]
  exact extractStridedSlice_apply _ _ _ _ _ fun a => match a with
    | ⟨0, _⟩ => rfl | ⟨1, _⟩ => (Nat.zero_add _).symm

/-! ## One row of a block -/

variable (m : (ℓ : Loc nD τ sig) → Buf (Elt Ideal) ℓ) (c : Dev nD)

/-- The origin in two dimensions. -/
theorem off2 : (![0, 0] : Fin 2 → ℕ) = fun _ => 0 := funext fun a => by fin_cases a <;> rfl

/-- The origin in three dimensions. -/
theorem off3 : (![0, 0, 0] : Fin 3 → ℕ) = fun _ => 0 := funext fun a => by fin_cases a <;> rfl

/-- A component of a code of the first chunk, as the body loads it. -/
theorem firstCodes_apply (t : Fin cfg0.N) (j : Fin 4096) (k : Fin 32) :
    View.ld (iblk m c 2 t : Vec Ideal S8192x32 .f32) r0_2 (ix2 j k)
      = book m c (ix2 (⟨j.val, by have := j.isLt; omega⟩ : Fin 8192) k) :=
  (chunk0_apply _ j k).trans (block2_apply m c t _ k)

/-- A component of a code of the second chunk, as the body loads it. -/
theorem lastCodes_apply (t : Fin cfg0.N) (j : Fin 4096) (k : Fin 32) :
    View.ld (iblk m c 2 t : Vec Ideal S8192x32 .f32) r0_3 (ix2 j k)
      = book m c (ix2 (⟨4096 + j.val, by have := j.isLt; omega⟩ : Fin 8192) k) :=
  (chunk1_apply _ j k).trans (block2_apply m c t _ k)

/-- The body's word for row `r` of block `t` is the first nearest code of that row's vector. -/
theorem out_apply (t : Fin cfg0.N) (r : Fin 2048) :
    ∃ i, IsFirstMin 8192 (toNth (vecs m c) (book m c) (rowOf t r)) i ∧
      out0_4 (iblk m c 0 t) (iblk m c 1 t) (iblk m c 2 t) (iblk m c 3 t) (ix3 (0 : Fin 1) (0 : Fin 1) r)
        = BitVec.ofNat 32 i := by
  rw [out_eq, View.canon_unit_zero off3, View.ld_unit_zero off2, View.ld_unit_zero off2, View.ld_unit_zero off2]
  refine stored_apply r (fun j => ?_) (fun j => ?_) fun q l => ?_
  · have hj : j.val < 8192 := by have := j.isLt; omega
    refine Eq.trans ?_ (toNth_eq hj).symm
    rw [rowNorm_apply, codeNorm_apply, product_apply]
    simp only [firstCodes_apply, block0_apply, block1_apply]
    rfl
  · have hj : 4096 + j.val < 8192 := by have := j.isLt; omega
    show k0_pay4 _ _ - k0_pay8 _ _ _ + k0_pay7 _ _ = _
    refine Eq.trans ?_ (toNth_eq hj).symm
    rw [rowNorm_apply, codeNorm_apply, product_apply]
    simp only [lastCodes_apply, block0_apply, block1_apply]
    rfl
  · unfold k0_pay3
    rw [shapeCast_self]
    exact block3_apply m c t q l

/-! ## The output array -/

/-- Different points write different blocks. -/
theorem blocks_apart : ∀ t t' : Fin cfg0.N, (cfg0.win 4).flush t = true → (cfg0.win 4).flush t' = true → t ≠ t' →
    Disjoint ((cfg0.win 4).blk t).view.set ((cfg0.win 4).blk t').view.set := by
  intro t t' _ _ hne
  refine (cfg0.win 4).disjoint_blk fun h => hne (Fin.ext ?_)
  have h0 : win0_4.index t 0 = win0_4.index t' 0 := congrFun h 0
  rwa [(moving_index t).2.2.2.2.1, (moving_index t').2.2.2.2.1] at h0

/-- The output array at block `t`, row `r`, holds what the body computed there. -/
theorem output_apply (t : Fin cfg0.N) (r : Fin 2048) :
    (dats m 0 c).arrAt 4 cfg0.N (ix3 (⟨t.val, by have := t.isLt; have : cfg0.N = 8 := N_0; omega⟩ : Fin 8) (0 : Fin 1) r)
      = out0_4 (iblk m c 0 t) (iblk m c 1 t) (iblk m c 2 t) (iblk m c 3 t) (ix3 (0 : Fin 1) (0 : Fin 1) r) := by
  have h := congrFun ((dats m 0 c).read_blk_arrAt_eq_flushed 4 blocks_apart cfg0.N t t.isLt (flush0_4 t))
    (ix3 (0 : Fin 1) (0 : Fin 1) r)
  have hf : (dats m 0 c).flushed 4 t (ix3 (0 : Fin 1) (0 : Fin 1) r)
      = out0_4 (iblk m c 0 t) (iblk m c 1 t) (iblk m c 2 t) (iblk m c 3 t) (ix3 (0 : Fin 1) (0 : Fin 1) r) := by
    rw [← after0_4 m c t]
    rfl
  refine Eq.trans ?_ (h.trans hf)
  refine congrArg ((dats m 0 c).arrAt 4 cfg0.N) (funext fun a => Fin.ext ?_)
  refine Eq.symm ((win0_4.rect_emb_val t (ix3 (0 : Fin 1) (0 : Fin 1) r) a).trans ?_)
  match a with
  | ⟨0, _⟩ =>
    show win0_4.index t 0 * 1 + 0 = t.val
    rw [(moving_index t).2.2.2.2.1]; omega
  | ⟨1, _⟩ =>
    show win0_4.index t 1 * 1 + 0 = 0
    rw [(moving_index t).2.2.2.2.2.1]
  | ⟨2, _⟩ =>
    show win0_4.index t 2 * 2048 + r.val = r.val
    rw [(moving_index t).2.2.2.2.2.2]; omega

/-! ## The result -/

/-- What the program leaves in its result array on device `c`. -/
abbrev result : IVec S16x1024 32 :=
  Pipeline.afterTail₀ cfgs (dats m) 0 (V0 m) [hostOps1] c main_v9

/-- The result is the output array, re-laid. -/
theorem result_eq : result m c = shapeCast S16x1024 ((dats m 0 c).arrAt 4 cfg0.N) shapeCasts_S8x1x2048_S16x1024 := by
  unfold result Pipeline.afterTail₀
  simp only [List.flatten_cons, List.flatten_nil, List.append_nil]
  after_reads_simp
  refine congrArg (fun x => shapeCast S16x1024 x shapeCasts_S8x1x2048_S16x1024) ?_
  exact Pipeline.withArrays_arr spec0 (by decide) c (V0 m c) _ 4

/-- The result at batch `b`, time `s` is the first nearest code of the vector there. -/
theorem result_apply (b : Fin 16) (s : Fin 1024) (n : Fin 16384) (hn : n.val = 1024 * b.val + s.val) :
    ∃ i, IsFirstMin 8192 (toNth (vecs m c) (book m c) n) i ∧ result m c (ix2 b s) = BitVec.ofNat 32 i := by
  have hN : cfg0.N = 8 := N_0
  have hlt := n.isLt
  let t : Fin cfg0.N := ⟨n.val / 2048, by omega⟩
  let r : Fin 2048 := ⟨n.val % 2048, Nat.mod_lt _ (by norm_num)⟩
  have hrow : rowOf t r = n := Fin.ext (Nat.div_add_mod n.val 2048)
  obtain ⟨i, hi, he⟩ := out_apply m c t r
  rw [hrow] at hi
  refine ⟨i, hi, ?_⟩
  rw [result_eq]
  refine (shapeCast_apply _ _ _ (ix3 (⟨t.val, by have := t.isLt; omega⟩ : Fin 8) (0 : Fin 1) r) ?_).trans
    ((output_apply m c t r).trans he)
  rw [Shape.rowMajor_val_two, Shape.rowMajor_val_three]
  show (n.val / 2048 * 1 + 0) * 2048 + n.val % 2048 = b.val * 1024 + s.val
  omega

end Cert.KernelValue
-- ==== Proof.ArgFold.lean ====
module

public import proofs.«01_k».proof.Proof.Gen.ReferenceIdeal
public import proofs.«01_k».proof.Proof.FirstMin
public import Idealize.ShloMosaic.Lib.ValueIdx
public import Idealize.ShloMosaic.Lib.WordCmp

@[expose] public section

noncomputable section

/-! # What the reference's arg-min fold computes

The reference folds pairs of a distance and its code number, keeping the pair with the smaller distance and,
at equal distances, the smaller number.  The fold's result is one of the pairs and none comes before it, whatever
the order they are met in. -/

namespace Cert.ArgFold

open Cert.ReferenceIdeal Cert.FirstMin
open Idealize.ShloMosaic Idealize.ShloMosaic.ValueIdx

/-- A pair as the fold keeps it: a distance and its code number's word. -/
abbrev Pair := EReal × BitVec 32

/-- `p` does not come after `q`: its distance is smaller, or equal with a number not larger. -/
def NotAfter (p q : Pair) : Prop := p.1 < q.1 ∨ p.1 = q.1 ∧ p.2.toInt ≤ q.2.toInt

/-- A pair does not come after itself. -/
theorem NotAfter.refl (p : Pair) : NotAfter p p := .inr ⟨rfl, le_rfl⟩

/-- Not coming after passes along. -/
theorem NotAfter.trans {p q r : Pair} (h : NotAfter p q) (h' : NotAfter q r) : NotAfter p r := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- The reducer on two pairs: the first if it comes strictly first, else the second. -/
theorem reducer_eq (a b : Pair) :
    (reducer_argmin_f32_i32 (F := Ideal) a b : Pair)
      = if a.1 < b.1 ∨ a.1 = b.1 ∧ a.2.toInt < b.2.toInt then a else b := by
  obtain ⟨a₁, a₂⟩ := a
  obtain ⟨b₁, b₂⟩ := b
  unfold reducer_argmin_f32_i32
  simp only [Ideal.cmpf_def]
  unfold Ideal.cmp IntOp.cmpi IntOp.ori IntOp.andi Scalar.select
  by_cases h₁ : a₁ < b₁
  · simp [h₁, h₁.ne]
  · by_cases h₂ : a₁ = b₁
    · subst h₂
      by_cases h₃ : a₂.toInt < b₂.toInt <;> simp [h₃, BitVec.slt]
    · simp [h₁, h₂]

/-- The reducer gives one of its two pairs, and that one comes after neither. -/
theorem reducer_spec (a b : Pair) :
    ((reducer_argmin_f32_i32 (F := Ideal) a b : Pair) = a ∨ (reducer_argmin_f32_i32 (F := Ideal) a b : Pair) = b)
      ∧ NotAfter (reducer_argmin_f32_i32 (F := Ideal) a b) a ∧ NotAfter (reducer_argmin_f32_i32 (F := Ideal) a b) b := by
  rw [reducer_eq]
  split_ifs with h
  · exact ⟨.inl rfl, .refl a, h.imp_right fun h => ⟨h.1, h.2.le⟩⟩
  · refine ⟨.inr rfl, ?_, .refl b⟩
    obtain ⟨h₁, h₂⟩ := not_or.mp h
    rcases (not_lt.mp h₁).lt_or_eq with h₃ | h₃
    · exact .inl h₃
    · exact .inr ⟨h₃, not_lt.mp fun hlt => h₂ ⟨h₃.symm, hlt⟩⟩

/-- The fold gives the first pair or one of the list, and it comes after none of them. -/
theorem foldl_spec : ∀ (L : List Pair) (a : Pair),
    L.foldl (reducer_argmin_f32_i32 (F := Ideal)) a ∈ a :: L
      ∧ ∀ q ∈ a :: L, NotAfter (L.foldl (reducer_argmin_f32_i32 (F := Ideal)) a) q
  | [], a => ⟨List.mem_singleton_self a, fun q hq => List.mem_singleton.mp hq ▸ .refl a⟩
  | b :: L, a => by
    obtain ⟨hm, hle⟩ := foldl_spec L (reducer_argmin_f32_i32 (F := Ideal) a b)
    obtain ⟨hor, ha, hb⟩ := reducer_spec a b
    have hfirst := hle _ List.mem_cons_self
    rw [List.foldl_cons]
    refine ⟨?_, fun q hq => ?_⟩
    · rcases List.mem_cons.mp hm with h | h
      · rcases hor with h' | h'
        · exact List.mem_cons.mpr (.inl (h.trans h'))
        · exact List.mem_cons_of_mem _ (List.mem_cons.mpr (.inl (h.trans h')))
      · exact List.mem_cons_of_mem _ (List.mem_cons_of_mem _ h)
    · rcases List.mem_cons.mp hq with rfl | hq
      · exact hfirst.trans ha
      · rcases List.mem_cons.mp hq with rfl | hq
        · exact hfirst.trans hb
        · exact hle q (List.mem_cons_of_mem _ hq)

/-- Code numbers below 8192 are compared as themselves. -/
theorem toInt_code {i : ℕ} (h : i < 8192) : (BitVec.ofNat 32 i).toInt = i :=
  WordCmp.toInt_ofNat_of_lt (by omega)

/-- Folding the pairs of a sequence of 8192 distances with their numbers, from infinity and zero, ends at the first
least index: `L` is any list of exactly those pairs. -/
theorem foldl_isFirstMin {d : ℕ → EReal} {L : List Pair}
    (hL : ∀ q : Pair, q ∈ L ↔ ∃ j < 8192, q = (d j, BitVec.ofNat 32 j)) :
    ∃ i, IsFirstMin 8192 d i ∧
      L.foldl (reducer_argmin_f32_i32 (F := Ideal)) ((⊤, 0#32) : Pair) = (d i, BitVec.ofNat 32 i) := by
  obtain ⟨hm, hle⟩ := foldl_spec L (⊤, 0#32)
  have hall : ∀ j < 8192, NotAfter (L.foldl (reducer_argmin_f32_i32 (F := Ideal)) ((⊤, 0#32) : Pair))
      (d j, BitVec.ofNat 32 j) := fun j hj => hle _ (List.mem_cons_of_mem _ ((hL _).mpr ⟨j, hj, rfl⟩))
  have hex : ∃ i < 8192, L.foldl (reducer_argmin_f32_i32 (F := Ideal)) ((⊤, 0#32) : Pair) = (d i, BitVec.ofNat 32 i) := by
    rcases List.mem_cons.mp hm with h | h
    · have h0 := hall 0 (by norm_num)
      rw [h] at h0
      have hd : d 0 = ⊤ := by
        rcases h0 with h0 | ⟨h0, _⟩
        · exact absurd h0 not_top_lt
        · exact h0.symm
      exact ⟨0, by norm_num, by rw [h, hd]⟩
    · exact (hL _).mp h
  obtain ⟨i, hi, he⟩ := hex
  rw [he] at hall
  refine ⟨i, ⟨hi, fun j hj => ?_, fun j hj => ?_⟩, he⟩
  · exact (hall j hj).elim le_of_lt fun h => h.1.le
  · rcases hall j (hj.trans hi) with h | ⟨_, h⟩
    · exact h
    · have h' : (BitVec.ofNat 32 i).toInt ≤ (BitVec.ofNat 32 j).toInt := h
      rw [toInt_code hi, toInt_code (hj.trans hi)] at h'
      omega

end Cert.ArgFold
-- ==== Proof.RefValue.lean ====
module

public import proofs.«01_k».proof.Proof.ArgFold
public import proofs.«01_k».proof.Proof.Distance
public import Idealize.ShloMosaic.Lib.IdealHost
public import Idealize.ShloMosaic.Lib.StackMember
public import Idealize.ShloMosaic.Lib.ValueLayout
public import Idealize.ShloMosaic.Lib.Pipeline.Value

@[expose] public section

noncomputable section

/-! # What the reference leaves in its result

The reference writes out the whole 16384 × 8192 table of distances and takes the arg-min of each row. -/

namespace Cert.RefValue

open Cert.ReferenceIdeal Cert.ReferenceIdeal.Facts₀ Cert.FirstMin Cert.Distance Cert.ArgFold
open Idealize.ShloMosaic Idealize.ShloMosaic.ValueIdx

/-! ## The fold of one entry -/

/-- The pairs folded for an entry are those at the indices the reduction sends to it. -/
theorem mem_argReduceFiber {s t : Shape} {axes : List (Fin s.rank)} (x : FVec Ideal s .f32) (y : IVec s 32)
    (h : s.ReducesTo axes t) (j : t.Idx) (q : Pair) :
    q ∈ Host.argReduceFiber x y h j ↔ ∃ i : s.Idx, h.drop i = j ∧ q = (x i, y i) := by
  unfold Host.argReduceFiber
  rw [List.mem_map]
  constructor
  · rintro ⟨k, hk, rfl⟩
    exact ⟨_, of_decide_eq_true (List.mem_filter.mp hk).2, rfl⟩
  · rintro ⟨i, hi, rfl⟩
    refine ⟨s.rowMajor i, List.mem_filter.mpr ⟨List.mem_finRange _, decide_eq_true ?_⟩, ?_⟩
    · rw [Equiv.symm_apply_apply, hi]
    · rw [Equiv.symm_apply_apply]

/-- The reduction's pair at an entry is the fold of its pairs, from the initial one. -/
theorem argReduce_eq_foldl {s t u : Shape} {axes : List (Fin s.rank)} (x : FVec Ideal s .f32) (y : IVec s 32)
    (ix : FVec Ideal u .f32) (iy : IVec u 32) (h : s.ReducesTo axes t) (hu : 0 < u.numel) (j : t.Idx)
    (hx : ix (Shape.Idx.first hu) = (⊤ : EReal)) (hy : iy (Shape.Idx.first hu) = 0#32) :
    (Host.argReduce (reducer_argmin_f32_i32 (F := Ideal)) x y ix iy h hu j : Pair)
      = List.foldl (α := Pair) (β := Pair) (reducer_argmin_f32_i32 (F := Ideal)) (⊤, 0#32)
          (Host.argReduceFiber x y h j) := by
  rw [Ideal.argReduce_eq_reduce2, Host.reduce2_eq_foldl_fiber, hx, hy]

variable (x : FVec Ideal S16x32x1024 .f32) (e : FVec Ideal S8192x32 .f32)

/-- The vectors as rows. -/
def rows : FVec Ideal S16384x32 .f32 :=
  shapeCast S16384x32 (transpose S16x1024x32 [0, 2, 1] x transposes_S16x32x1024_S16x1024x32_0_2_1)
    shapeCasts_S16x1024x32_S16384x32

/-- Row `n` is vector `n`. -/
theorem rows_apply (n : Fin 16384) (k : Fin 32) : rows x (ix2 n k) = comp x n k := by
  refine (shapeCast_apply _ _ _ (ix3 (⟨n.val / 1024, by have := n.isLt; omega⟩ : Fin 16)
    (⟨n.val % 1024, Nat.mod_lt _ (by norm_num)⟩ : Fin 1024) k) ?_).trans (transpose_ix3_021_apply x _ _ _ _)
  rw [Shape.rowMajor_val_two, Shape.rowMajor_val_three]
  show (n.val / 1024 * 1024 + n.val % 1024) * 32 + k.val = n.val * 32 + k.val
  rw [Nat.div_add_mod']

/-! ## The table of distances -/

/-- The squared norms of the rows. -/
def rowNorms : FVec Ideal S16384 .f32 :=
  Host.reduceAdd (mulf (rows x) (rows x)) (constant S_ .f32 0x00000000#32) reducesTo_S16384x32_S16384_d1 h_S_

/-- The reference's norm of a vector. -/
theorem rowNorms_apply (n : Fin 16384) : rowNorms x (ix1 n) = ∑ k : Fin 32, comp x n k * comp x n k := by
  have hr : S16384x32.Reduces [1] S16384 := by decide
  unfold rowNorms
  rw [hostReduceAdd_apply, Ideal.hostReduceAdd_single _ hr]
  show Ideal.ofBits .f32 0x00000000#32 + _ = _
  rw [Ideal.ofBits_zero_f32, zero_add]
  refine Finset.sum_congr rfl fun (k : Fin 32) _ => ?_
  have hlift : hr.lift (ix1 n) k = ix2 n k := by funext a; match a with | ⟨0, _⟩ => rfl | ⟨1, _⟩ => rfl
  refine (congrArg (fun i => rows x i * rows x i) hlift).trans ?_
  show rows x (ix2 n k) * rows x (ix2 n k) = _
  rw [rows_apply]

/-- The squared norms of the codes. -/
def codeNorms : FVec Ideal S8192 .f32 :=
  Host.reduceAdd (mulf e e) (constant S_ .f32 0x00000000#32) reducesTo_S8192x32_S8192_d1 h_S_

/-- The reference's norm of a code. -/
theorem codeNorms_apply (j : Fin 8192) : codeNorms e (ix1 j) = ∑ k : Fin 32, e (ix2 j k) * e (ix2 j k) := by
  have hr : S8192x32.Reduces [1] S8192 := by decide
  unfold codeNorms
  rw [hostReduceAdd_apply, Ideal.hostReduceAdd_single _ hr]
  show Ideal.ofBits .f32 0x00000000#32 + _ = _
  rw [Ideal.ofBits_zero_f32, zero_add]
  refine Finset.sum_congr rfl fun (k : Fin 32) _ => ?_
  have hlift : hr.lift (ix1 j) k = ix2 j k := by funext a; match a with | ⟨0, _⟩ => rfl | ⟨1, _⟩ => rfl
  exact congrArg (fun i => e i * e i) hlift

/-- The inner products of the doubled rows with the codes. -/
def products : FVec Ideal S16384x8192 .f32 :=
  Host.dotGeneral dot_S16384x32_S32x8192_S16384x8192_1_0_0_1_n_n none
    (mulf (broadcastInDim S16384x32 ![] bcast_S_S16384x32 (constant S_ .f32 0x40000000#32)) (rows x))
    (transpose S32x8192 [1, 0] e transposes_S8192x32_S32x8192_1_0)

/-- The doubled inner product of a vector and a code, as the reference forms it. -/
theorem products_apply (n : Fin 16384) (j : Fin 8192) :
    products x e (ix2 n j) = ∑ k : Fin 32, two * comp x n k * e (ix2 j k) := by
  refine (StackMember.dotGeneral_plain_apply (m := 16384) (n := 8192) (k := 32) none _ _ n j).trans ?_
  refine Finset.sum_congr rfl fun k _ => ?_
  rw [mulf_apply, rows_apply]
  exact congrArg (two * comp x n k * ·) (transpose_ix2_apply e _ k j)

/-- The table. -/
def table : FVec Ideal S16384x8192 .f32 :=
  addf
    (subf
      (broadcastInDim S16384x8192 ![0, 1] bcast_S16384x1_S16384x8192_0_1
        (broadcastInDim S16384x1 ![0] bcast_S16384_S16384x1_0 (rowNorms x)))
      (products x e))
    (broadcastInDim S16384x8192 ![0, 1] bcast_S1x8192_S16384x8192_0_1
      (broadcastInDim S1x8192 ![1] bcast_S8192_S1x8192_1 (codeNorms e)))

/-- The table at row `n`, column `j` is the distance of vector `n` to code `j`. -/
theorem table_apply (n : Fin 16384) (j : Fin 8192) : table x e (ix2 n j) = toCode x e n j := by
  have hrow : broadcastInDim S16384x8192 ![0, 1] bcast_S16384x1_S16384x8192_0_1
      (broadcastInDim S16384x1 ![0] bcast_S16384_S16384x1_0 (rowNorms x)) (ix2 n j)
        = ∑ k : Fin 32, comp x n k * comp x n k := by
    refine (broadcastInDim_apply _ _ _ _ (ix2 n (0 : Fin 1)) fun a => match a with | ⟨0, _⟩ => rfl | ⟨1, _⟩ => rfl).trans ?_
    refine (broadcastInDim_apply _ _ _ _ (ix1 n) fun a => match a with | ⟨0, _⟩ => rfl).trans ?_
    exact rowNorms_apply x n
  have hcode : broadcastInDim S16384x8192 ![0, 1] bcast_S1x8192_S16384x8192_0_1
      (broadcastInDim S1x8192 ![1] bcast_S8192_S1x8192_1 (codeNorms e)) (ix2 n j)
        = ∑ k : Fin 32, e (ix2 j k) * e (ix2 j k) := by
    refine (broadcastInDim_apply _ _ _ _ (ix2 (0 : Fin 1) j) fun a => match a with | ⟨0, _⟩ => rfl | ⟨1, _⟩ => rfl).trans ?_
    refine (broadcastInDim_apply _ _ _ _ (ix1 j) fun a => match a with | ⟨0, _⟩ => rfl).trans ?_
    exact codeNorms_apply e j
  exact congrArg₂ (fun a b : EReal => a + b) (congrArg₂ (fun a b : EReal => a - b) hrow (products_apply x e n j)) hcode

/-! ## The arg-min of a row -/

/-- The pairs folded for row `n` of a table are the row's entries with their columns' numbers. -/
theorem mem_fiber (D : FVec Ideal S16384x8192 .f32) {d : ℕ → EReal} (n : Fin 16384)
    (hd : ∀ j : Fin 8192, D (ix2 n j) = d j.val) (q : Pair) :
    q ∈ Host.argReduceFiber D (iotaInDim S16384x8192 32 1) reducesTo_S16384x8192_S16384_d1 (ix1 n)
      ↔ ∃ j < 8192, q = (d j, BitVec.ofNat 32 j) := by
  have hdrop : ∀ i : S16384x8192.Idx, reducesTo_S16384x8192_S16384_d1.drop i = ix1 (i 0 : Fin 16384) := fun i => by
    funext a; match a with | ⟨0, _⟩ => rfl
  refine (mem_argReduceFiber _ _ _ _ q).trans ⟨?_, ?_⟩
  · rintro ⟨i, hi, rfl⟩
    have h0 : (i 0 : Fin 16384) = n := congrFun ((hdrop i).symm.trans hi) 0
    have hix : i = ix2 n (i 1 : Fin 8192) := by
      funext a; match a with | ⟨0, _⟩ => exact h0 | ⟨1, _⟩ => rfl
    exact ⟨(i 1).val, (i 1).isLt, Prod.ext ((congrArg D hix).trans (hd _)) rfl⟩
  · rintro ⟨j, hj, rfl⟩
    exact ⟨ix2 n (⟨j, hj⟩ : Fin 8192), hdrop _, Prod.ext (hd ⟨j, hj⟩).symm rfl⟩

/-- The arg-min of a table's row is the first index at which the row is least. -/
theorem argmin_apply (D : FVec Ideal S16384x8192 .f32) {d : ℕ → EReal} (n : Fin 16384)
    (hd : ∀ j : Fin 8192, D (ix2 n j) = d j.val) :
    ∃ i, IsFirstMin 8192 d i ∧
      (Host.argReduce (reducer_argmin_f32_i32 (F := Ideal)) D (iotaInDim S16384x8192 32 1)
        (constant S_ .f32 0x7F800000#32) (constantI S_ 32 0#32) reducesTo_S16384x8192_S16384_d1 h_S_ (ix1 n)).2
        = BitVec.ofNat 32 i := by
  obtain ⟨i, hi, he⟩ := foldl_isFirstMin (mem_fiber D n hd)
  have hinf : (constant S_ .f32 0x7F800000#32 : FVec Ideal S_ .f32) (Shape.Idx.first h_S_) = (⊤ : EReal) := by
    show Ideal.ofBits .f32 0x7F800000#32 = ⊤
    simp [Ideal.ofBits, Ideal.ieee]
  exact ⟨i, hi, congrArg Prod.snd ((argReduce_eq_foldl D (iotaInDim S16384x8192 32 1)
    (constant S_ .f32 0x7F800000#32) (constantI S_ 32 0#32) reducesTo_S16384x8192_S16384_d1 h_S_ (ix1 n) hinf rfl).trans he)⟩

/-- The arg-min of the table of distances, at row `n`, is the first nearest code of vector `n`. -/
theorem nearest_apply (n : Fin 16384) :
    ∃ i, IsFirstMin 8192 (toNth x e n) i ∧
      (Host.argReduce (reducer_argmin_f32_i32 (F := Ideal)) (table x e) (iotaInDim S16384x8192 32 1)
        (constant S_ .f32 0x7F800000#32) (constantI S_ 32 0#32) reducesTo_S16384x8192_S16384_d1 h_S_ (ix1 n)).2
        = BitVec.ofNat 32 i :=
  argmin_apply (table x e) n fun j => (table_apply x e n j).trans (toNth_eq j.isLt).symm

end Cert.RefValue
-- ==== Proof.Equation.lean ====
module

public import proofs.«01_k».proof.Defs
public import proofs.«01_k».proof.Proof.KernelValue
public import proofs.«01_k».proof.Proof.RefValue
public import Idealize.ShloMosaic.Lib.Claim
public import Idealize.ShloMosaic.Lib.Quiescent

@[expose] public section

noncomputable section

/-! # The two results are equal

Both programs leave at every batch and time the word of the first nearest code, and a row of distances has only one. -/

namespace Cert.Equation

open Idealize.ShloMosaic Idealize.ShloMosaic.TcCoe Idealize.SL.Sem Idealize.ShloMosaic.ValueIdx
open Cert.ReferenceIdeal.Facts₀

/-- The reference's run ends, leaves its arguments alone, and has no semaphore to leave raised. -/
theorem reference_frame : Cert.quiescent_ReferenceIdeal := by
  intro m g _
  hlo_run
  · exact fun _ => ⟨trivial, trivial⟩
  · exact Idealize.ShloMosaic.sem_eq_zero_of_no_sems (by decide) _

/-- Writing the arg-mins to their buffer writes them as they are. -/
theorem toBuf_argmins (h₁ h₂ h₃) (f : IVec ReferenceIdeal.S16384 32) :
    (StableHlo.TRef.of ReferenceIdeal.main_v16 h₁ h₂ h₃ :
      StableHlo.TRef ReferenceIdeal.sig ⟨ReferenceIdeal.S16384, .i32⟩).toBuf (Val := Elt Ideal) f = f := rfl

/-- Reading the table from its buffer reads it as it is. -/
theorem ofBuf_table (h₁ h₂ h₃) (f : FVec Ideal ReferenceIdeal.S16384x8192 .f32) :
    (StableHlo.TRef.of ReferenceIdeal.main_v15 h₁ h₂ h₃ :
      StableHlo.TRef ReferenceIdeal.sig ⟨ReferenceIdeal.S16384x8192, .f32⟩).ofBuf (Val := Elt Ideal) f = f := rfl

/-- The two programs' results agree at batch `b`, time `s`. -/
theorem result_eq (m : (ℓ : Loc KernelIdeal.nD KernelIdeal.τ KernelIdeal.sig) → Buf (Elt Ideal) ℓ)
    (c : Dev KernelIdeal.nD) (b : Fin 16) (s : Fin 1024) (n : Fin 16384) (hn : n.val = 1024 * b.val + s.val) :
    (Host.argReduce (ReferenceIdeal.reducer_argmin_f32_i32 (F := Ideal))
      (RefValue.table (Inputs.vecs m c) (Inputs.book m c)) (iotaInDim ReferenceIdeal.S16384x8192 32 1)
      (constant ReferenceIdeal.S_ .f32 0x7F800000#32) (constantI ReferenceIdeal.S_ 32 0#32)
      reducesTo_S16384x8192_S16384_d1 h_S_ (ix1 n)).2 = KernelValue.result m c (ix2 b s) := by
  obtain ⟨i, hi, he⟩ := RefValue.nearest_apply (Inputs.vecs m c) (Inputs.book m c) n
  obtain ⟨j, hj, hk⟩ := KernelValue.result_apply m c b s n hn
  exact he.trans ((congrArg (BitVec.ofNat 32) (hi.unique hj)).trans hk.symm)

/-- At the extended reals the kernel's result is the reference's. -/
theorem algebraic : Cert.algebraic_KernelIdeal_ReferenceIdeal := by
  pair_intro
  · run_from Cert.KernelIdeal.Gen.run_main m g
    exact Cert.KernelIdeal.Gen.W_main_arg0 m _ _
  · hlo_run
    refine funext fun i => ?_
    obtain ⟨b, s, rfl⟩ : ∃ (b : Fin 16) (s : Fin 1024), i = ix2 b s :=
      ⟨i 0, i 1, by funext a; match a with | ⟨0, _⟩ => rfl | ⟨1, _⟩ => rfl⟩
    have hlt : 1024 * b.val + s.val < 16384 := by have := b.isLt; have := s.isLt; omega
    refine (shapeCast_apply _ _ _ (ix1 (⟨1024 * b.val + s.val, hlt⟩ : Fin 16384)) ?_).trans ?_
    · refine (Shape.rowMajor_val_one _).trans (Eq.trans ?_ (Shape.rowMajor_val_two (d := ![16, 1024]) (ix2 b s)).symm)
      show 1024 * b.val + s.val = b.val * 1024 + s.val
      omega
    · simp only [StableHlo.TRef.ofBuf_toBuf]
      refine (congrFun (toBuf_argmins _ _ _ _) _).trans ?_
      rw [ofBuf_table]
      exact result_eq m c b s ⟨1024 * b.val + s.val, hlt⟩ rfl

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem

/-- Every claim: each program's run leaves its arguments and its semaphores as they should be, the idealization changes
nothing, and the kernel's codes are the reference's. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.Equation.reference_frame,
  trivial, Cert.Equation.algebraic⟩

end Cert.Proof

end
